-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_varied [hPre_finite_and_varied : Cert.Pre_finite_and_varied.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_varied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_and_varied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_and_varied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_varied [hPre_finite_and_varied : Cert.Pre_finite_and_varied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_varied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_and_varied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_and_varied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_varied [hKernelIdeal : Cert.KernelIdeal.Facts] [hPre_finite_and_varied : Cert.Pre_finite_and_varied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_varied m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_varied [hReferenceIdeal : Cert.ReferenceIdeal.Facts] [hPre_finite_and_varied : Cert.Pre_finite_and_varied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_varied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_and_varied [hKernelIdeal : Cert.KernelIdeal.Facts] [hReferenceIdeal : Cert.ReferenceIdeal.Facts] [hPre_finite_and_varied : Cert.Pre_finite_and_varied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_varied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_and_varied : Cert.Pre_finite_and_varied.Facts),
    quiescent_Kernel (hKernel := hKernel)
    ∧ quiescent_KernelIdeal (hKernelIdeal := hKernelIdeal)
    ∧ quiescent_KernelIdeal_pre_finite_and_varied (hKernelIdeal := hKernelIdeal) (hPre_finite_and_varied := hPre_finite_and_varied)
    ∧ quiescent_ReferenceIdeal (hReferenceIdeal := hReferenceIdeal)
    ∧ quiescent_ReferenceIdeal_pre_finite_and_varied (hReferenceIdeal := hReferenceIdeal) (hPre_finite_and_varied := hPre_finite_and_varied)
    ∧ preserves_Kernel_KernelIdeal
    ∧ algebraic_KernelIdeal_ReferenceIdeal_pre_finite_and_varied (hKernelIdeal := hKernelIdeal) (hReferenceIdeal := hReferenceIdeal) (hPre_finite_and_varied := hPre_finite_and_varied)
-- ==== Pre_finite_and_varied.lean ====
abbrev S32x512x4096 : Shape := ⟨3, ![32, 512, 4096]⟩
abbrev S1x512x1 : Shape := ⟨3, ![1, 512, 1]⟩
abbrev S32x32x65536 : Shape := ⟨3, ![32, 32, 65536]⟩
abbrev S32x32x1 : Shape := ⟨3, ![32, 32, 1]⟩
abbrev S_ : Shape := ⟨0, ![]⟩
abbrev S32 : Shape := ⟨1, ![32]⟩

class Facts : Prop where
  shapeCasts_S32x512x4096_S32x32x65536 : S32x512x4096.ShapeCasts S32x32x65536
  slices_S32x32x65536_S32x32x1_0_0_0 : S32x32x65536.Slices ![0, 0, 0] S32x32x1
  bcast_S32x32x1_S32x32x65536_0_1_2 : S32x32x1.BroadcastsInDim S32x32x65536 (![0, 1, 2] : Fin 3 → Fin S32x32x65536.rank)
  natLt_1_32 : 1 < 32
  bcast_S_S32x512x4096 : S_.BroadcastsInDim S32x512x4096 (![] : Fin 0 → Fin S32x512x4096.rank)
  bcast_S_S1x512x1 : S_.BroadcastsInDim S1x512x1 (![] : Fin 0 → Fin S1x512x1.rank)
  reducesTo_S32x32x65536_S32_d1_2 : S32x32x65536.ReducesTo [1, 2] S32
  h_S_ : 0 < S_.numel
  bcast_S_S32 : S_.BroadcastsInDim S32 (![] : Fin 0 → Fin S32.rank)

variable [Facts]

def fn {F : FTy → Type} [FloatOps F] (main_arg0 : FVec F S32x512x4096 .f32) (main_arg1 : FVec F S1x512x1 .f32) (main_arg2 : FVec F S1x512x1 .f32) : IVec S32x512x4096 1 × IVec S1x512x1 1 × IVec S32 1 :=
  let main_v0 : FVec F S32x32x65536 .f32 := shapeCast S32x32x65536 main_arg0 shapeCasts_S32x512x4096_S32x32x65536
  let main_v1 : FVec F S32x32x1 .f32 := (extractStridedSlice S32x32x1 ![0, 0, 0] · slices_S32x32x65536_S32x32x1_0_0_0) main_v0
  let main_v2 : FVec F S32x32x65536 .f32 := broadcastInDim S32x32x65536 ![0, 1, 2] bcast_S32x32x1_S32x32x65536_0_1_2 main_v1
  let main_v3 : IVec S32x32x65536 1 := cmpf .une main_v0 main_v2
  let main_v4 : IVec S32x32x65536 32 := (extui 32 · natLt_1_32) main_v3
  let main_v5 : FVec F S32x512x4096 .f32 := Host.absf main_arg0
  let main_cst : FVec F S_ .f32 := constant S_ .f32 0x7F800000#32
  let main_v6 : FVec F S32x512x4096 .f32 := broadcastInDim S32x512x4096 ![] bcast_S_S32x512x4096 main_cst
  let main_v7 : IVec S32x512x4096 1 := cmpf .olt main_v5 main_v6
  let main_v8 : FVec F S1x512x1 .f32 := Host.absf main_arg1
  let main_cst_0 : FVec F S_ .f32 := constant S_ .f32 0x7F800000#32
  let main_v9 : FVec F S1x512x1 .f32 := broadcastInDim S1x512x1 ![] bcast_S_S1x512x1 main_cst_0
  let main_v10 : IVec S1x512x1 1 := cmpf .olt main_v8 main_v9
  let main_c : IVec S_ 32 := constantI S_ 32 0#32
  let main_v11 : IVec S32 32 := (fun x v => Host.reduce IntOp.addi x v reducesTo_S32x32x65536_S32_d1_2 h_S_) main_v4 main_c
  let main_c_1 : IVec S_ 32 := constantI S_ 32 0#32
  let main_v12 : IVec S32 32 := broadcastInDim S32 ![] bcast_S_S32 main_c_1
  let main_v13 : IVec S32 1 := cmpi .sgt main_v11 main_v12
  (main_v7, main_v10, main_v13)
-- ==== Kernel.lean ====
abbrev S32x512x4096 : Shape := ⟨3, ![32, 512, 4096]⟩
abbrev S1x512x1 : Shape := ⟨3, ![1, 512, 1]⟩
abbrev S512x1 : Shape := ⟨2, ![512, 1]⟩
abbrev S1x512x4096 : Shape := ⟨3, ![1, 512, 4096]⟩
abbrev S512x4096 : Shape := ⟨2, ![512, 4096]⟩
abbrev S512 : Shape := ⟨1, ![512]⟩
abbrev S512x512 : Shape := ⟨2, ![512, 512]⟩
abbrev S512x32 : Shape := ⟨2, ![512, 32]⟩
abbrev S32x32 : Shape := ⟨2, ![32, 32]⟩
abbrev S32x1 : Shape := ⟨2, ![32, 1]⟩
abbrev S1x32 : Shape := ⟨2, ![1, 32]⟩
abbrev S1x32x32 : Shape := ⟨3, ![1, 32, 32]⟩
abbrev S1 : Shape := ⟨1, ![1]⟩
abbrev S1x1x1 : Shape := ⟨3, ![1, 1, 1]⟩
abbrev S32 : Shape := ⟨1, ![32]⟩

abbrev nBuf : Space → Nat
  | .hbm => 6
  | .vmem => 6
  | .smem => 0
  | _ => 0

abbrev bufTy : (tb : Table) → Fin (tcTables nBuf tb) → BufTy
  | .hbm, ⟨0, _⟩ => ⟨S32x512x4096, .f32⟩
  | .hbm, ⟨1, _⟩ => ⟨S1x512x1, .f32⟩
  | .hbm, ⟨2, _⟩ => ⟨S1x512x1, .f32⟩
  | .hbm, ⟨3, _⟩ => ⟨S512x1, .f32⟩
  | .hbm, ⟨4, _⟩ => ⟨S512x1, .f32⟩
  | .hbm, ⟨5, _⟩ => ⟨S32x512x4096, .f32⟩
  | .local _ .vmem, ⟨0, _⟩ => ⟨S1x512x4096, .f32⟩
  | .local _ .vmem, ⟨1, _⟩ => ⟨S1x512x4096, .f32⟩
  | .local _ .vmem, ⟨2, _⟩ => ⟨S512x1, .f32⟩
  | .local _ .vmem, ⟨3, _⟩ => ⟨S512x1, .f32⟩
  | .local _ .vmem, ⟨4, _⟩ => ⟨S1x512x4096, .f32⟩
  | .local _ .vmem, ⟨5, _⟩ => ⟨S1x512x4096, .f32⟩
  | _, _ => ⟨S32x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32x512x4096 : Shape := ⟨3, ![32, 512, 4096]⟩
abbrev S1x512x1 : Shape := ⟨3, ![1, 512, 1]⟩
abbrev S32x32x65536 : Shape := ⟨3, ![32, 32, 65536]⟩
abbrev S_ : Shape := ⟨0, ![]⟩
abbrev S32x32 : Shape := ⟨2, ![32, 32]⟩
abbrev S32x32x1 : Shape := ⟨3, ![32, 32, 1]⟩
abbrev S32x32x32 : Shape := ⟨3, ![32, 32, 32]⟩
abbrev S32 : Shape := ⟨1, ![32]⟩
abbrev S32x1x1 : Shape := ⟨3, ![32, 1, 1]⟩

abbrev nBuf : Space → Nat
  | .hbm => 101
  | .vmem => 0
  | .smem => 0
  | _ => 0

abbrev bufTy : (tb : Table) → Fin (tcTables nBuf tb) → BufTy
  | .hbm, ⟨0, _⟩ => ⟨S32x512x4096, .f32⟩
  | .hbm, ⟨1, _⟩ => ⟨S1x512x1, .f32⟩
  | .hbm, ⟨2, _⟩ => ⟨S1x512x1, .f32⟩
  | .hbm, ⟨3, _⟩ => ⟨S32x32x65536, .f32⟩
  | .hbm, ⟨4, _⟩ => ⟨S_, .f32⟩
  | .hbm, ⟨5, _⟩ => ⟨S32x32, .f32⟩
  | .hbm, ⟨6, _⟩ => ⟨S32x32x1, .f32⟩
  | .hbm, ⟨7, _⟩ => ⟨S_, .f32⟩
  | .hbm, ⟨8, _⟩ => ⟨S32x32x1, .f32⟩
  | .hbm, ⟨9, _⟩ => ⟨S32x32x1, .f32⟩
  | .hbm, ⟨10, _⟩ => ⟨S32x32x65536, .f32⟩
  | .hbm, ⟨11, _⟩ => ⟨S32x32x65536, .f32⟩
  | .hbm, ⟨12, _⟩ => ⟨S32x32x32, .f32⟩
  | .hbm, ⟨13, _⟩ => ⟨S_, .f32⟩
  | .hbm, ⟨14, _⟩ => ⟨S32x32x32, .f32⟩
  | .hbm, ⟨15, _⟩ => ⟨S32x32x32, .f32⟩
  | .hbm, ⟨16, _⟩ => ⟨S32x32, .i32⟩
  | .hbm, ⟨17, _⟩ => ⟨S32x32, .i32⟩
  | .hbm, ⟨18, _⟩ => ⟨S_, .i32⟩
  | .hbm, ⟨19, _⟩ => ⟨S32x32, .i32⟩
  | .hbm, ⟨20, _⟩ => ⟨S32x32, .i32⟩
  | .hbm, ⟨21, _⟩ => ⟨S32x32, .i1⟩
  | .hbm, ⟨22, _⟩ => ⟨S_, .f32⟩
  | .hbm, ⟨23, _⟩ => ⟨S32x32x32, .f32⟩
  | .hbm, ⟨24, _⟩ => ⟨S32x32x32, .i1⟩
  | .hbm, ⟨25, _⟩ => ⟨S32x32x32, .f32⟩
  | .hbm, ⟨26, _⟩ => ⟨S_, .f32⟩
  | .hbm, ⟨27, _⟩ => ⟨S32, .f32⟩
  | .hbm, ⟨28, _⟩ => ⟨S32x1x1, .f32⟩
  | .hbm, ⟨29, _⟩ => ⟨S_, .f32⟩
  | .hbm, ⟨30, _⟩ => ⟨S32x1x1, .f32⟩
  | .hbm, ⟨31, _⟩ => ⟨S32x1x1, .f32⟩
  | .hbm, ⟨32, _⟩ => ⟨S32x32x32, .f32⟩
  | .hbm, ⟨33, _⟩ => ⟨S32x32x32, .f32⟩
  | .hbm, ⟨34, _⟩ => ⟨S32x32, .i32⟩
  | .hbm, ⟨35, _⟩ => ⟨S32x32, .i32⟩
  | .hbm, ⟨36, _⟩ => ⟨S_, .i32⟩
  | .hbm, ⟨37, _⟩ => ⟨S32x32, .i32⟩
  | .hbm, ⟨38, _⟩ => ⟨S32x32, .i32⟩
  | .hbm, ⟨39, _⟩ => ⟨S32x32, .i1⟩
  | .hbm, ⟨40, _⟩ => ⟨S32x32, .f32⟩
  | .hbm, ⟨41, _⟩ => ⟨S32x32x32, .f32⟩
  | .hbm, ⟨42, _⟩ => ⟨S_, .f32⟩
  | .hbm, ⟨43, _⟩ => ⟨S32x32x32, .f32⟩
  | .hbm, ⟨44, _⟩ => ⟨S32x32x32, .f32⟩
  | .hbm, ⟨45, _⟩ => ⟨S32x32x32, .f32⟩
  | .hbm, ⟨46, _⟩ => ⟨S32x32x32, .f32⟩
  | .hbm, ⟨47, _⟩ => ⟨S32x32x32, .f32⟩
  | .hbm, ⟨48, _⟩ => ⟨S_, .f32⟩
  | .hbm, ⟨49, _⟩ => ⟨S32x32x32, .f32⟩
  | .hbm, ⟨50, _⟩ => ⟨S32x32x32, .f32⟩
  | .hbm, ⟨51, _⟩ => ⟨S32x32x32, .f32⟩
  | .hbm, ⟨52, _⟩ => ⟨S_, .f32⟩
  | .hbm, ⟨53, _⟩ => ⟨S32x32x32, .f32⟩
  | .hbm, ⟨54, _⟩ => ⟨S32x32x32, .f32⟩
  | .hbm, ⟨55, _⟩ => ⟨S32x32x32, .f32⟩
  | .hbm, ⟨56, _⟩ => ⟨S32x32x32, .f32⟩
  | .hbm, ⟨57, _⟩ => ⟨S32x32x32, .f32⟩
  | .hbm, ⟨58, _⟩ => ⟨S_, .f32⟩
  | .hbm, ⟨59, _⟩ => ⟨S32x32x32, .f32⟩
  | .hbm, ⟨60, _⟩ => ⟨S32x32x32, .f32⟩
  | .hbm, ⟨61, _⟩ => ⟨S32x32x32, .f32⟩
  | .hbm, ⟨62, _⟩ => ⟨S_, .f32⟩
  | .hbm, ⟨63, _⟩ => ⟨S32x32x32, .f32⟩
  | .hbm, ⟨64, _⟩ => ⟨S32x32x32, .f32⟩
  | .hbm, ⟨65, _⟩ => ⟨S32x32x32, .f32⟩
  | .hbm, ⟨66, _⟩ => ⟨S32x32x32, .f32⟩
  | .hbm, ⟨67, _⟩ => ⟨S32x32x32, .f32⟩
  | .hbm, ⟨68, _⟩ => ⟨S_, .f32⟩
  | .hbm, ⟨69, _⟩ => ⟨S32x32x32, .f32⟩
  | .hbm, ⟨70, _⟩ => ⟨S32x32x32, .f32⟩
  | .hbm, ⟨71, _⟩ => ⟨S32x32x32, .f32⟩
  | .hbm, ⟨72, _⟩ => ⟨S_, .f32⟩
  | .hbm, ⟨73, _⟩ => ⟨S32x32x32, .f32⟩
  | .hbm, ⟨74, _⟩ => ⟨S32x32x32, .f32⟩
  | .hbm, ⟨75, _⟩ => ⟨S32x32x32, .f32⟩
  | .hbm, ⟨76, _⟩ => ⟨S32x32x32, .f32⟩
  | .hbm, ⟨77, _⟩ => ⟨S32x32x32, .f32⟩
  | .hbm, ⟨78, _⟩ => ⟨S_, .f32⟩
  | .hbm, ⟨79, _⟩ => ⟨S32x32x32, .f32⟩
  | .hbm, ⟨80, _⟩ => ⟨S32x32x32, .f32⟩
  | .hbm, ⟨81, _⟩ => ⟨S32x32x32, .f32⟩
  | .hbm, ⟨82, _⟩ => ⟨S_, .f32⟩
  | .hbm, ⟨83, _⟩ => ⟨S32x32x32, .f32⟩
  | .hbm, ⟨84, _⟩ => ⟨S32x32x32, .f32⟩
  | .hbm, ⟨85, _⟩ => ⟨S32x32x32, .f32⟩
  | .hbm, ⟨86, _⟩ => ⟨S32x32x32, .f32⟩
  | .hbm, ⟨87, _⟩ => ⟨S32x32x32, .f32⟩
  | .hbm, ⟨88, _⟩ => ⟨S_, .f32⟩
  | .hbm, ⟨89, _⟩ => ⟨S32x32x32, .f32⟩
  | .hbm, ⟨90, _⟩ => ⟨S32x32x32, .f32⟩
  | .hbm, ⟨91, _⟩ => ⟨S32x32x32, .f32⟩
  | .hbm, ⟨92, _⟩ => ⟨S32x1x1, .f32⟩
  | .hbm, ⟨93, _⟩ => ⟨S32x32x32, .f32⟩
  | .hbm, ⟨94, _⟩ => ⟨S32x32x32, .f32⟩
  | .hbm, ⟨95, _⟩ => ⟨S32x32x65536, .f32⟩
  | .hbm, ⟨96, _⟩ => ⟨S32x512x4096, .f32⟩
  | .hbm, ⟨97, _⟩ => ⟨S32x512x4096, .f32⟩
  | .hbm, ⟨98, _⟩ => ⟨S32x512x4096, .f32⟩
  | .hbm, ⟨99, _⟩ => ⟨S32x512x4096, .f32⟩
  | .hbm, ⟨100, _⟩ => ⟨S32x512x4096, .f32⟩
  | _, _ => ⟨S32x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_call0_v0 : Ref sig .tc := ⟨.hbm, 16, rfl⟩
abbrev main_call0_v1 : Ref sig .tc := ⟨.hbm, 17, rfl⟩
abbrev main_call0_c : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_cst : Ref sig .tc := ⟨.hbm, 22, rfl⟩
abbrev main_call0_v5 : Ref sig .tc := ⟨.hbm, 23, rfl⟩
abbrev main_call0_call0_v0 : Ref sig .tc := ⟨.hbm, 24, rfl⟩
abbrev main_call0_v6 : Ref sig .tc := ⟨.hbm, 25, rfl⟩
abbrev main_call0_cst_0 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_10 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_11 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_12 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩

abbrev nD : Nat := 1
abbrev τ : Topo := Topo.v7x

variable {F : FTy → Type} [FloatOps F]
-- ==== Proof.Whiten.lean ====
/-
  THE MATHEMATICS of group whitening, in real matrices and nothing else (no program, no buffer).

  One batch item is a 512 x 4096 matrix `X`: a row per channel, a column per place. The reference regroups it into 32 rows
  of 65536 entries (`grouped`: group `g` is channels `16 g … 16 g + 15`, one after another), takes each group's mean, the
  covariance of the centred groups, divides that by its trace, runs five Newton-Schulz steps and multiplies the centred
  groups by the result (`whitened`). The kernel never regroups: it works on the 512 x 4096 matrix through two 0/1 masks
  (`member`: channel in group; `samePlace`: equal position within the group). The theorems here are the equations between
  the two: `maskedSums`, `maskedProducts`, `cov_eq`, `pairedStep`, `expandedProduct`.
-/
module

public import Mathlib.Data.Matrix.Mul
public import Mathlib.LinearAlgebra.Matrix.Trace
public import Mathlib.Logic.Equiv.Fin.Basic
public import Mathlib.Analysis.Real.Sqrt
public import Mathlib.Algebra.BigOperators.Fin
public import Mathlib.Tactic.Linarith
public import Mathlib.Tactic.NormNum
public import Mathlib.Tactic.Ring
public import Mathlib.Tactic.Positivity

@[expose] public section

noncomputable section

namespace Cert.Whiten

open Matrix

/-- Real matrices with `a` rows and `b` columns. -/
abbrev Mat (a b : ℕ) := Matrix (Fin a) (Fin b) ℝ

/-- The group a channel belongs to. -/
def groupOf (c : Fin 512) : Fin 32 := ⟨c.val / 16, by omega⟩

/-- Channel `k` of group `g`. -/
def channel (g : Fin 32) (k : Fin 16) : Fin 512 := ⟨16 * g.val + k.val, by omega⟩

/-- Where entry `l` of channel `c` stands in its group's row. -/
def placeOf (c : Fin 512) (l : Fin 4096) : Fin 65536 := ⟨4096 * (c.val % 16) + l.val, by omega⟩

/-- The item regrouped: row `g` holds the sixteen channels of group `g` one after another. -/
def grouped (X : Mat 512 4096) : Mat 32 65536 :=
  fun g n => X ⟨16 * g.val + n.val / 4096, by omega⟩ ⟨n.val % 4096, by omega⟩

/-- A group's mean. -/
def mean (Y : Mat 32 65536) (g : Fin 32) : ℝ := (∑ n, Y g n) / 65536

/-- The groups with their means taken off. -/
def centred (Y : Mat 32 65536) : Mat 32 65536 := fun g n => Y g n - mean Y g

/-- The covariance of the groups. -/
def cov (Y : Mat 32 65536) : Mat 32 32 := fun g h => (∑ n, centred Y g n * centred Y h n) / 65536

/-- A matrix divided by its trace. -/
def normed (S : Mat 32 32) : Mat 32 32 := (1 / S.trace) • S

/-- One Newton-Schulz step toward the inverse square root of `S`. -/
def step (S P : Mat 32 32) : Mat 32 32 := (1.5 : ℝ) • P - (0.5 : ℝ) • (P * P * P * S)

/-- Five Newton-Schulz steps from the identity. -/
def newton (S : Mat 32 32) : Mat 32 32 := step S (step S (step S (step S (step S 1))))

/-- The whitening matrix of a covariance. -/
def whitener (S : Mat 32 32) : Mat 32 32 := Real.sqrt (1 / S.trace) • newton (normed S)

/-- The whitened item at channel `c`, place `l`, before the per-channel scale and shift. -/
def whitened (X : Mat 512 4096) (c : Fin 512) (l : Fin 4096) : ℝ :=
  ∑ h, whitener (cov (grouped X)) (groupOf c) h * centred (grouped X) h (placeOf c l)

/-- The 0/1 mask "channel `c` is in group `g`". -/
def member : Mat 512 32 := fun c g => if c.val / 16 = g.val then 1 else 0

/-- The 0/1 mask "channels `c` and `d` stand at the same position in their groups". -/
def samePlace : Mat 512 512 := fun c d => if c.val % 16 = d.val % 16 then 1 else 0

/-! ## Sums over the channels and over a group's row -/

/-- A sum over the channels is a sum over groups and positions. -/
theorem sum_channels (f : Fin 512 → ℝ) : ∑ c, f c = ∑ g : Fin 32, ∑ k : Fin 16, f (channel g k) := by
  rw [← Fintype.sum_prod_type', ← (finProdFinEquiv (m := 32) (n := 16)).sum_comp]
  refine Finset.sum_congr rfl fun p _ => congrArg f (Fin.ext ?_)
  simp [channel, finProdFinEquiv]; omega

/-- A sum over a group's row is a sum over positions and places. -/
theorem sum_row (f : Fin 65536 → ℝ) :
    ∑ n, f n = ∑ k : Fin 16, ∑ l : Fin 4096, f ⟨4096 * k.val + l.val, by omega⟩ := by
  rw [← Fintype.sum_prod_type' (f := fun (k : Fin 16) (l : Fin 4096) => f ⟨4096 * k.val + l.val, by omega⟩),
    ← (finProdFinEquiv (m := 16) (n := 4096)).sum_comp]
  refine Finset.sum_congr rfl fun p _ => congrArg f (Fin.ext ?_)
  simp [finProdFinEquiv]; omega

/-- A regrouped entry, read by position and place. -/
theorem grouped_row (X : Mat 512 4096) (g : Fin 32) (k : Fin 16) (l : Fin 4096) :
    grouped X g ⟨4096 * k.val + l.val, by omega⟩ = X (channel g k) l := by
  unfold grouped channel
  congr 1 <;> (apply Fin.ext; simp only []; omega)

/-- The same at the group and position of a channel of another group. -/
theorem grouped_placeOf (X : Mat 512 4096) (g : Fin 32) (c : Fin 512) (l : Fin 4096) :
    grouped X g (placeOf c l) = X (channel g ⟨c.val % 16, by omega⟩) l :=
  grouped_row X g ⟨c.val % 16, by omega⟩ l

/-- The membership mask at a named channel. -/
theorem member_channel (g h : Fin 32) (k : Fin 16) : member (channel g k) h = if g = h then 1 else 0 := by
  have e : (16 * g.val + k.val) / 16 = g.val := by omega
  simp [member, channel, e, Fin.ext_iff]

/-- The position mask at two named channels. -/
theorem samePlace_channel (c : Fin 512) (h : Fin 32) (k : Fin 16) :
    samePlace c (channel h k) = if (⟨c.val % 16, by omega⟩ : Fin 16) = k then 1 else 0 := by
  have e : (16 * h.val + k.val) % 16 = k.val := by omega
  simp [samePlace, channel, e, Fin.ext_iff]

/-- A sum over the channels weighted by membership of a group is the sum over that group's channels. -/
theorem sum_member (f : Fin 512 → ℝ) (g : Fin 32) : ∑ c, member c g * f c = ∑ k, f (channel g k) := by
  rw [sum_channels]
  simp only [member_channel, ite_mul, one_mul, zero_mul]
  rw [Finset.sum_comm]
  simp

/-! ## The kernel's sums against the reference's -/

/-- The channel sums gathered by membership are the sums of the groups' rows. -/
theorem maskedSums (X : Mat 512 4096) (g : Fin 32) :
    ∑ c, member c g * ∑ l, X c l = ∑ n, grouped X g n := by
  rw [sum_member, sum_row]
  simp only [grouped_row]

/-- The channels' products, kept where the positions agree and gathered by membership on both sides, are the products of
    the groups' rows. -/
theorem maskedProducts (X : Mat 512 4096) (g h : Fin 32) :
    ∑ c, member c g * ∑ d, (X * Xᵀ) c d * samePlace c d * member d h = ∑ n, grouped X g n * grouped X h n := by
  rw [sum_member, sum_row]
  refine Finset.sum_congr rfl fun k _ => ?_
  simp only [grouped_row]
  have e (d : Fin 512) : (X * Xᵀ) (channel g k) d * samePlace (channel g k) d * member d h
      = member d h * ((X * Xᵀ) (channel g k) d * samePlace (channel g k) d) := by ring
  simp only [e]
  rw [sum_member]
  have ek : (⟨(channel g k).val % 16, by omega⟩ : Fin 16) = k := Fin.ext (by simp [channel])
  simp only [samePlace_channel, ek, mul_ite, mul_one, mul_zero, Finset.sum_ite_eq, Finset.mem_univ, if_true,
    Matrix.mul_apply, Matrix.transpose_apply]

/-- The covariance is the mean product less the product of the means. -/
theorem cov_eq (Y : Mat 32 65536) (g h : Fin 32) :
    cov Y g h = (∑ n, Y g n * Y h n) * (1 / 65536) - mean Y g * mean Y h := by
  have e : ∑ n, centred Y g n * centred Y h n
      = (∑ n, Y g n * Y h n) - 65536 * (mean Y g * mean Y h) := by
    have h1 : ∑ n, Y g n = 65536 * mean Y g := by unfold mean; ring
    have h2 : ∑ n, Y h n = 65536 * mean Y h := by unfold mean; ring
    simp only [centred, sub_mul, mul_sub, Finset.sum_sub_distrib, ← Finset.sum_mul, ← Finset.mul_sum, h1, h2,
      Finset.sum_const, Finset.card_univ, Fintype.card_fin, nsmul_eq_mul]
    push_cast
    ring
  unfold cov
  rw [e]
  ring

/-- The trace of a covariance is positive when some group is not constant. -/
theorem trace_pos (Y : Mat 32 65536) (hY : ∃ g n, Y g n ≠ Y g 0) : 0 < (cov Y).trace := by
  obtain ⟨g, n, hgn⟩ := hY
  unfold Matrix.trace
  refine Finset.sum_pos' (fun i _ => ?_) ⟨g, Finset.mem_univ _, ?_⟩
  · exact div_nonneg (Finset.sum_nonneg fun n _ => mul_self_nonneg _) (by norm_num)
  · refine div_pos (Finset.sum_pos' (fun n _ => mul_self_nonneg _) ?_) (by norm_num)
    by_cases h0 : centred Y g 0 = 0
    · refine ⟨n, Finset.mem_univ _, mul_self_pos.mpr fun hn => hgn ?_⟩
      unfold centred at h0 hn
      linarith
    · exact ⟨0, Finset.mem_univ _, mul_self_pos.mpr h0⟩

/-! ## The Newton-Schulz steps -/

/-- A step with its product of four taken in pairs. -/
theorem pairedStep (S P : Mat 32 32) : (1.5 : ℝ) • P - (0.5 : ℝ) • (P * P * (P * S)) = step S P := by
  rw [step, Matrix.mul_assoc (P * P) P S]

/-- The reciprocal of a square root is the square root of the reciprocal. -/
theorem inv_sqrt_eq (t : ℝ) : (Real.sqrt t)⁻¹ = Real.sqrt (1 / t) := by
  rw [one_div, Real.sqrt_inv]

/-! ## The last product -/

/-- The whitening matrix spread over the channels by the two masks and multiplied by the item, less the same matrix times
    the means, is the whitening matrix times the centred groups. -/
theorem expandedProduct (X : Mat 512 4096) (W : Mat 32 32) (w : ℝ) (c : Fin 512) (l : Fin 4096) :
    (∑ d, ((∑ h, W (groupOf c) h * w * member d h) * samePlace c d) * X d l)
        - w * ∑ h, W (groupOf c) h * mean (grouped X) h
      = (∑ h, W (groupOf c) h * centred (grouped X) h (placeOf c l)) * w := by
  have e : ∑ d, ((∑ h, W (groupOf c) h * w * member d h) * samePlace c d) * X d l
      = (∑ h, W (groupOf c) h * grouped X h (placeOf c l)) * w := by
    rw [sum_channels, Finset.sum_mul]
    refine Finset.sum_congr rfl fun g _ => ?_
    simp only [member_channel, samePlace_channel, mul_ite, mul_one, mul_zero, ite_mul, zero_mul,
      Finset.sum_ite_eq, Finset.mem_univ, if_true, grouped_placeOf]
    ring
  rw [e]
  simp only [centred, mul_sub, Finset.sum_sub_distrib, sub_mul]
  ring

end Cert.Whiten

end
-- ==== Proof.Vec.lean ====
/-
  REAL MATRICES AS IDEAL VECTORS. `em A` is the real matrix `A` as a two-axis vector of extended reals. Each lemma says
  that an operation on such vectors is the matching operation on the matrices, so that a chain of vector operations on
  finite numbers is followed in real arithmetic. The three matrix products a kernel prints are `A B`, `A Bᵀ` and `Aᵀ B`.
-/
module

public import proofs.«01_k».proof.Proof.Gen.KernelIdeal.Skeleton
public import proofs.«01_k».proof.Proof.Whiten
public import Idealize.ShloMosaic.Lib.Pointwise

@[expose] public section

noncomputable section

namespace Cert.Vec

open Idealize.ShloMosaic Cert.Whiten Matrix

/-- A real matrix as a vector of extended reals. -/
def em {a b : ℕ} (A : Mat a b) : FVec Ideal (⟨2, ![a, b]⟩ : Shape) .f32 := fun i => ((A (i 0) (i 1) : ℝ) : EReal)

/-- The entry of an embedded matrix. -/
theorem em_apply {a b : ℕ} (A : Mat a b) (r : Fin a) (c : Fin b) : em A (ix2 r c) = ((A r c : ℝ) : EReal) := rfl

/-- A vector with the entries of a matrix is the matrix embedded. -/
theorem eq_em {a b : ℕ} (v : FVec Ideal (⟨2, ![a, b]⟩ : Shape) .f32) (A : Mat a b)
    (h : ∀ r c, v (ix2 r c) = ((A r c : ℝ) : EReal)) : v = em A := by
  funext j
  rw [eq_ix2 j]
  exact h _ _

/-- Matrices with equal entries are embedded alike. -/
theorem em_congr {a b : ℕ} {A B : Mat a b} (h : ∀ r c, A r c = B r c) : em A = em B := by
  rw [show A = B from funext fun r => funext fun c => h r c]

/-- The product of two matrices entry by entry. -/
def entrywise {a b : ℕ} (A B : Mat a b) : Mat a b := fun r c => A r c * B r c

/-- An entry of the entrywise product. -/
theorem entrywise_apply {a b : ℕ} (A B : Mat a b) (r : Fin a) (c : Fin b) : entrywise A B r c = A r c * B r c := rfl

/-- A finite sum of reals, embedded. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A finite sum of products of reals, embedded. -/
theorem sum_coe_mul {n : ℕ} (f g : Fin n → ℝ) :
    ∑ k, ((f k : ℝ) : EReal) * ((g k : ℝ) : EReal) = ((∑ k, f k * g k : ℝ) : EReal) := by
  rw [coe_sum]
  exact Finset.sum_congr rfl fun k _ => (EReal.coe_mul _ _).symm

/-! ## The constants -/

/-- The bit pattern of 1/65536. -/
theorem ofBits_inv : Ideal.ofBits .f32 0x37800000#32 = ((1 / 65536 : ℝ) : EReal) := by
  simp [Ideal.ofBits, Ideal.ieee, -EReal.coe_mul]; norm_num

/-- The bit pattern of 65536. -/
theorem ofBits_count : Ideal.ofBits .f32 0x47800000#32 = ((65536 : ℝ) : EReal) := by
  simp [Ideal.ofBits, Ideal.ieee, -EReal.coe_mul]; norm_num

/-- The bit pattern of 1.5. -/
theorem ofBits_threeHalves : Ideal.ofBits .f32 0x3FC00000#32 = ((1.5 : ℝ) : EReal) := by
  simp [Ideal.ofBits, Ideal.ieee, -EReal.coe_mul]; norm_num

/-- The bit pattern of 0.5. -/
theorem ofBits_half : Ideal.ofBits .f32 0x3F000000#32 = ((0.5 : ℝ) : EReal) := by
  simp [Ideal.ofBits, Ideal.ieee, -EReal.coe_mul]; norm_num

/-! ## Elementwise operations -/

/-- The product of two embedded matrices, entry by entry. -/
theorem mulf_em {a b : ℕ} (A B : Mat a b) : mulf (em A) (em B) = em (entrywise A B) :=
  eq_em _ _ fun _ _ => (EReal.coe_mul _ _).symm

/-- The difference of two embedded matrices. -/
theorem subf_em {a b : ℕ} (A B : Mat a b) : subf (em A) (em B) = em (A - B) :=
  eq_em _ _ fun _ _ => (EReal.coe_sub _ _).symm

/-- A splat constant times an embedded matrix. -/
theorem splat_mulf_em {a b : ℕ} (A : Mat a b) (x : EReal) (r : ℝ) (hx : x = ((r : ℝ) : EReal)) :
    mulf (broadcast (⟨2, ![a, b]⟩ : Shape) x : FVec Ideal _ .f32) (em A) = em (r • A) :=
  eq_em _ _ fun p q => by
    subst hx
    exact (EReal.coe_mul r (A p q)).symm

/-- An embedded matrix times a splat constant. -/
theorem mulf_splat_em {a b : ℕ} (A : Mat a b) (x : EReal) (r : ℝ) (hx : x = ((r : ℝ) : EReal)) :
    mulf (em A) (broadcast (⟨2, ![a, b]⟩ : Shape) x : FVec Ideal _ .f32) = em (r • A) :=
  eq_em _ _ fun p q => by
    subst hx
    refine (EReal.coe_mul (A p q) r).symm.trans ?_
    rw [mul_comm]
    rfl

/-! ## The kernel's matrix products -/

section Products
open Cert.KernelIdeal Cert.KernelIdeal.Gen

/-- 512x4096 by its own kind transposed. -/
theorem dot_gram (A B : Mat 512 4096) :
    matmul dot_S512x4096_S512x4096_S512x512_1_1_0_0_n_n none (em A) (em B) (constant (F := Ideal) S512x512 .f32 0x00000000#32)
      = em (A * Bᵀ) := by
  refine eq_em _ _ fun r c => ?_
  pointwise
  exact sum_coe_mul _ _

/-- 512x512 by 512x32. -/
theorem dot_512_512_32 (A : Mat 512 512) (B : Mat 512 32) :
    matmul dot_S512x512_S512x32_S512x32_1_0_0_1_n_n none (em A) (em B) (constant (F := Ideal) S512x32 .f32 0x00000000#32)
      = em (A * B) := by
  refine eq_em _ _ fun r c => ?_
  pointwise
  exact sum_coe_mul _ _

/-- 512x32 transposed by 512x32. -/
theorem dot_t512_32_32 (A B : Mat 512 32) :
    matmul dot_S512x32_S512x32_S32x32_0_0_1_1_n_n none (em A) (em B) (constant (F := Ideal) S32x32 .f32 0x00000000#32)
      = em (Aᵀ * B) := by
  refine eq_em _ _ fun r c => ?_
  pointwise
  exact sum_coe_mul _ _

/-- 512x32 transposed by 512x1. -/
theorem dot_t512_32_1 (A : Mat 512 32) (B : Mat 512 1) :
    matmul dot_S512x32_S512x1_S32x1_0_0_1_1_n_n none (em A) (em B) (constant (F := Ideal) S32x1 .f32 0x00000000#32)
      = em (Aᵀ * B) := by
  refine eq_em _ _ fun r c => ?_
  pointwise
  exact sum_coe_mul _ _

/-- 32x32 by 32x32. -/
theorem dot_32_32_32 (A B : Mat 32 32) :
    matmul dot_S32x32_S32x32_S32x32_1_0_0_1_n_n none (em A) (em B) (constant (F := Ideal) S32x32 .f32 0x00000000#32)
      = em (A * B) := by
  refine eq_em _ _ fun r c => ?_
  pointwise
  exact sum_coe_mul _ _

/-- 512x32 by 32x32. -/
theorem dot_512_32_32 (A : Mat 512 32) (B : Mat 32 32) :
    matmul dot_S512x32_S32x32_S512x32_1_0_0_1_n_n none (em A) (em B) (constant (F := Ideal) S512x32 .f32 0x00000000#32)
      = em (A * B) := by
  refine eq_em _ _ fun r c => ?_
  pointwise
  exact sum_coe_mul _ _

/-- 512x32 by 512x32 transposed. -/
theorem dot_512_32_512 (A B : Mat 512 32) :
    matmul dot_S512x32_S512x32_S512x512_1_1_0_0_n_n none (em A) (em B) (constant (F := Ideal) S512x512 .f32 0x00000000#32)
      = em (A * Bᵀ) := by
  refine eq_em _ _ fun r c => ?_
  pointwise
  exact sum_coe_mul _ _

/-- 512x32 by 32x1. -/
theorem dot_512_32_1 (A : Mat 512 32) (B : Mat 32 1) :
    matmul dot_S512x32_S32x1_S512x1_1_0_0_1_n_n none (em A) (em B) (constant (F := Ideal) S512x1 .f32 0x00000000#32)
      = em (A * B) := by
  refine eq_em _ _ fun r c => ?_
  pointwise
  exact sum_coe_mul _ _

/-- 512x512 by 512x4096. -/
theorem dot_512_512_4096 (A : Mat 512 512) (B : Mat 512 4096) :
    matmul dot_S512x512_S512x4096_S512x4096_1_0_0_1_n_n none (em A) (em B) (constant (F := Ideal) S512x4096 .f32 0x00000000#32)
      = em (A * B) := by
  refine eq_em _ _ fun r c => ?_
  pointwise
  exact sum_coe_mul _ _

end Products

end Cert.Vec

end
-- ==== Proof.Body.lean ====
/-
  WHAT ONE BLOCK COMPUTES. The kernel's body at one grid point holds one batch item (a real 512 x 4096 matrix `X`), the
  scale column `w` (real) and the shift column `b` (any extended reals). Payload by payload the body's vectors are real
  matrices: the two masks, the groups' means, their covariance, its trace, the Newton-Schulz iterates, the whitening
  matrix; the stored block is the whitened item scaled and shifted (`pay18_eq`).
-/
module

public import proofs.«01_k».proof.Proof.Vec

@[expose] public section

noncomputable section

namespace Cert.Body

open Idealize.ShloMosaic Cert.Whiten Cert.Vec Matrix Cert.KernelIdeal Cert.KernelIdeal.Gen

/-! ## The index words -/

/-- The printed floor division of a channel number by sixteen is its group's number. -/
theorem groupWord : ∀ c : Fin 512,
    Scalar.select
        (IntOp.andi
          (IntOp.cmpi CmpIPredicate.ne
            (IntOp.subi (BitVec.setWidth 32 (IntOp.cmpi CmpIPredicate.sgt (BitVec.ofNat 32 c.val) 0#32))
              (BitVec.setWidth 32 (IntOp.cmpi CmpIPredicate.slt (BitVec.ofNat 32 c.val) 0#32)))
            (Scalar.subi (Scalar.extui (Scalar.cmpi CmpIPredicate.sgt 16#32 0#32))
              (Scalar.extui (Scalar.cmpi CmpIPredicate.slt 16#32 0#32))))
          (IntOp.cmpi CmpIPredicate.ne (IntOp.remsi ArithUnit.vector (BitVec.ofNat 32 c.val) 16#32) 0#32))
        (IntOp.subi (IntOp.divsi ArithUnit.vector (BitVec.ofNat 32 c.val) 16#32) 1#32)
        (IntOp.divsi ArithUnit.vector (BitVec.ofNat 32 c.val) 16#32)
      = BitVec.ofNat 32 (c.val / 16) := by
  decide +kernel

/-- The printed floor remainder of a channel number by sixteen is its position in its group. -/
theorem placeWord : ∀ c : Fin 512,
    Scalar.select
        (IntOp.andi
          (IntOp.xori
            (IntOp.cmpi CmpIPredicate.slt
              (IntOp.remsi ArithUnit.vector (BitVec.ofNat 32 c.val)
                (Scalar.select (Scalar.cmpi CmpIPredicate.eq 16#32 0#32) 1#32 16#32))
              0#32)
            (Scalar.cmpi CmpIPredicate.slt (Scalar.select (Scalar.cmpi CmpIPredicate.eq 16#32 0#32) 1#32 16#32) 0#32))
          (IntOp.cmpi CmpIPredicate.ne
            (IntOp.remsi ArithUnit.vector (BitVec.ofNat 32 c.val)
              (Scalar.select (Scalar.cmpi CmpIPredicate.eq 16#32 0#32) 1#32 16#32))
            0#32))
        (IntOp.addi
          (IntOp.remsi ArithUnit.vector (BitVec.ofNat 32 c.val)
            (Scalar.select (Scalar.cmpi CmpIPredicate.eq 16#32 0#32) 1#32 16#32))
          (Scalar.select (Scalar.cmpi CmpIPredicate.eq 16#32 0#32) 1#32 16#32))
        (IntOp.remsi ArithUnit.vector (BitVec.ofNat 32 c.val)
          (Scalar.select (Scalar.cmpi CmpIPredicate.eq 16#32 0#32) 1#32 16#32))
      = BitVec.ofNat 32 (c.val % 16) := by
  decide +kernel

/-- A choice on the equality of two index words is a choice on the equality of the numbers. -/
theorem select_eqWord {α : Type} (a b : ℕ) (ha : a < 2 ^ 32) (hb : b < 2 ^ 32) (x y : α) :
    Scalar.select (IntOp.cmpi CmpIPredicate.eq (BitVec.ofNat 32 a) (BitVec.ofNat 32 b)) x y = if a = b then x else y := by
  by_cases h : a = b
  · subst h
    simp [IntOp.cmpi, Scalar.select]
  · have hne : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    have hb' : (BitVec.ofNat 32 a == BitVec.ofNat 32 b) = false := beq_eq_false_iff_ne.mpr hne
    simp [IntOp.cmpi, Scalar.select, h, hb']

/-! ## The masks, the means and the covariance -/

/-- The block viewed without its leading axis is the item. -/
theorem pay1_eq (v : Vec Ideal S1x512x4096 .f32) (X : Mat 512 4096) (hv : ∀ c l, v (ix3 0 c l) = ((X c l : ℝ) : EReal)) :
    k0_pay1 (F := Ideal) v = em X := by
  refine eq_em _ _ fun c l => ?_
  pointwise [k0_pay1]
  exact hv c l

/-- A real column repeated into `n` columns. -/
def colMat {m : ℕ} (n : ℕ) (f : Fin m → ℝ) : Mat m n := fun r _ => f r

/-- An entry of a repeated column. -/
theorem colMat_apply {m n : ℕ} (f : Fin m → ℝ) (r : Fin m) (c : Fin n) : colMat n f r c = f r := rfl

/-- The channel sums. -/
theorem pay2_eq (v : Vec Ideal S1x512x4096 .f32) (X : Mat 512 4096) (hv : ∀ c l, v (ix3 0 c l) = ((X c l : ℝ) : EReal)) :
    k0_pay2 (F := Ideal) v = em (colMat 1 fun c => ∑ l, X c l) := by
  refine eq_em _ _ fun c l => ?_
  rw [k0_pay2, pay1_eq v X hv]
  pointwise
  simp only [em_apply, colMat_apply, coe_sum]

/-- The channels' products. -/
theorem pay3_eq (v : Vec Ideal S1x512x4096 .f32) (X : Mat 512 4096) (hv : ∀ c l, v (ix3 0 c l) = ((X c l : ℝ) : EReal)) :
    k0_pay3 (F := Ideal) v = em (X * Xᵀ) := by
  rw [k0_pay3, pay1_eq v X hv]
  exact dot_gram X X

/-- The first mask is membership of a group. -/
theorem pay4_eq : k0_pay4 (F := Ideal) = em member := by
  refine eq_em _ _ fun c g => ?_
  pointwise [k0_pay4]
  rw [groupWord c, select_eqWord _ _ (by omega) (by omega)]
  unfold member
  split_ifs <;> simp

/-- The second mask is equality of positions. -/
theorem pay7_eq :
    k0_pay7 (F := Ideal) (Scalar.select (Scalar.cmpi .eq 16#32 0#32) 1#32 16#32) k0_pay5 k0_pay6 = em samePlace := by
  refine eq_em _ _ fun c d => ?_
  pointwise [k0_pay7, k0_pay5, k0_pay6]
  rw [placeWord c, placeWord d, select_eqWord _ _ (by omega) (by omega)]
  unfold samePlace
  split_ifs <;> simp

/-- The channel sums, as a column. -/
abbrev sumCol (X : Mat 512 4096) : Mat 512 1 := colMat 1 fun c => ∑ l, X c l

/-- The groups' means, as a column. -/
abbrev meanCol (X : Mat 512 4096) : Mat 32 1 := colMat 1 (mean (grouped X))

/-- A matrix times the splat of 1/65536. -/
theorem mulf_inv_em {a b : ℕ} (A : Mat a b) :
    mulf (em A) (broadcast (⟨2, ![a, b]⟩ : Shape) (Scalar.ofBits (F := Ideal) .f32 0x37800000#32))
      = em ((1 / 65536 : ℝ) • A) :=
  mulf_splat_em A _ _ ofBits_inv

/-- The means: the channel sums gathered by membership, divided by the count. -/
theorem pay8_eq (X : Mat 512 4096) : k0_pay8 (F := Ideal) (em (sumCol X)) (em member) = em (meanCol X) := by
  unfold k0_pay8
  simp only [dot_t512_32_1, mulf_inv_em]
  refine em_congr fun g u => ?_
  simp only [Matrix.smul_apply, Matrix.mul_apply, Matrix.transpose_apply, colMat_apply, maskedSums, mean, smul_eq_mul]
  ring

/-- The means, as a row. -/
theorem pay9_eq (X : Mat 512 4096) :
    k0_pay9 (F := Ideal) (em (sumCol X)) (em member) = em (meanCol X)ᵀ := by
  unfold k0_pay9
  rw [pay8_eq]
  refine eq_em _ _ fun r c => ?_
  pointwise
  rfl

/-- The covariance of the groups. -/
theorem pay10_eq (X : Mat 512 4096) :
    k0_pay10 (F := Ideal) (em (sumCol X)) (em (X * Xᵀ)) (em member)
        (Scalar.select (Scalar.cmpi .eq 16#32 0#32) 1#32 16#32) k0_pay5 k0_pay6
      = em (cov (grouped X)) := by
  have hb : mulf (broadcastTo S32x32 (em (meanCol X)) broadcasts_S32x1_S32x32)
      (broadcastTo S32x32 (em (meanCol X)ᵀ) broadcasts_S1x32_S32x32)
      = em (meanCol X * (meanCol X)ᵀ) := by
    refine eq_em _ _ fun g h => ?_
    pointwise
    rw [Matrix.mul_apply]
    simp only [Fin.sum_univ_one, Matrix.transpose_apply, em_apply, EReal.coe_mul]
  unfold k0_pay10
  simp only [pay7_eq, pay8_eq, pay9_eq, hb, mulf_em, dot_512_512_32, dot_t512_32_32, mulf_inv_em, subf_em]
  refine em_congr fun g h => ?_
  rw [cov_eq, ← maskedProducts]
  simp only [Matrix.sub_apply, Matrix.smul_apply, smul_eq_mul, Matrix.mul_apply, Matrix.transpose_apply, entrywise_apply,
    colMat_apply, Fin.sum_univ_one]
  ring

/-- The sum of the diagonal. -/
theorem pay12_eq (S : Mat 32 32) : k0_pay12 (F := Ideal) (em S) = ((S.trace : ℝ) : EReal) := by
  pointwise [k0_pay12, k0_pay11]
  have hd (x y : Fin 32) : Scalar.select (IntOp.cmpi CmpIPredicate.eq (BitVec.ofNat 32 x.val) (BitVec.ofNat 32 y.val))
      (em S (ix2 x y)) 0 = if x = y then ((S x y : ℝ) : EReal) else 0 := by
    rw [select_eqWord _ _ (by omega) (by omega)]
    simp only [em_apply, Fin.ext_iff]
  simp only [hd, Finset.sum_ite_eq, Finset.mem_univ, if_true]
  exact (coe_sum _ _).symm

/-! ## The Newton-Schulz steps -/

variable (S : Mat 32 32)

/-- The covariance over its trace. -/
theorem pay13_eq (hS : S.trace ≠ 0) : k0_pay13 (F := Ideal) (em S) = em (normed S) := by
  unfold k0_pay13
  rw [pay12_eq]
  refine mulf_splat_em _ _ _ ?_
  refine (Ideal.div_coe hS _).trans ?_
  rw [show (Scalar.ofBits .f32 0x3F800000#32 : Ideal .f32) = 1 from Ideal.ofBits_one_f32, one_mul]

/-- One printed step: `1.5 P` less half the product of `P P` and `P S`. -/
theorem step_em (P N : Mat 32 32) :
    subf (mulf (broadcast S32x32 (Scalar.ofBits (F := Ideal) .f32 0x3FC00000#32)) (em P))
        (mulf (broadcast S32x32 (Scalar.ofBits (F := Ideal) .f32 0x3F000000#32)) (em (P * P * (P * N))))
      = em (step N P) := by
  rw [show mulf (broadcast S32x32 (Scalar.ofBits (F := Ideal) .f32 0x3FC00000#32)) (em P) = em ((1.5 : ℝ) • P) from
      splat_mulf_em _ _ _ ofBits_threeHalves,
    show mulf (broadcast S32x32 (Scalar.ofBits (F := Ideal) .f32 0x3F000000#32)) (em (P * P * (P * N)))
      = em ((0.5 : ℝ) • (P * P * (P * N))) from splat_mulf_em _ _ _ ofBits_half,
    subf_em, pairedStep]

/-- The third iterate. -/
def third (S : Mat 32 32) : Mat 32 32 := step (normed S) (step (normed S) (step (normed S) 1))

/-- Three steps from the identity. -/
theorem pay14_eq (hS : S.trace ≠ 0) : k0_pay14 (F := Ideal) (em S) = em (third S) := by
  have h1 : select k0_pay11 (broadcast S32x32 (Scalar.ofBits (F := Ideal) .f32 0x3F800000#32))
      (broadcast S32x32 (Scalar.ofBits (F := Ideal) .f32 0x00000000#32)) = em (1 : Mat 32 32) := by
    refine eq_em _ _ fun x y => ?_
    pointwise [k0_pay11]
    rw [select_eqWord _ _ (by omega) (by omega), Matrix.one_apply]
    simp only [Fin.ext_iff]
    split_ifs <;> simp
  have hf : subf (mulf (broadcast S32x32 (Scalar.ofBits (F := Ideal) .f32 0x3FC00000#32)) (em (1 : Mat 32 32)))
        (mulf (broadcast S32x32 (Scalar.ofBits (F := Ideal) .f32 0x3F000000#32)) (em (normed S)))
      = em (step (normed S) 1) := by
    have := step_em (1 : Mat 32 32) (normed S)
    simpa only [Matrix.one_mul] using this
  unfold k0_pay14
  simp only [pay13_eq S hS, h1, hf, dot_32_32_32, step_em]
  rfl

/-- The third iterate squared. -/
theorem pay15_eq (hS : S.trace ≠ 0) : k0_pay15 (F := Ideal) (em S) = em (third S * third S) := by
  unfold k0_pay15
  simp only [pay14_eq S hS, dot_32_32_32]

/-- The third iterate times the normed covariance. -/
theorem pay16_eq (hS : S.trace ≠ 0) : k0_pay16 (F := Ideal) (em S) = em (third S * normed S) := by
  unfold k0_pay16
  simp only [pay14_eq S hS, pay13_eq S hS, dot_32_32_32]

/-- The third iterate scaled. -/
theorem pay17_eq (hS : S.trace ≠ 0) : k0_pay17 (F := Ideal) (em S) = mulf (broadcast S32x32 (Scalar.ofBits (F := Ideal) .f32 0x3FC00000#32)) (em (third S)) := by
  unfold k0_pay17
  simp only [pay14_eq S hS]

/-! ## The stored block -/

/-- The stored block, entry by entry: the whitened item times the channel's scale, plus the channel's shift. -/
theorem pay18_eq (X : Mat 512 4096) (w : Fin 512 → ℝ) (b : FVec Ideal S512x1 .f32)
    (hS : 0 < (cov (grouped X)).trace) (c : Fin 512) (l : Fin 4096) :
    k0_pay18 (F := Ideal) (em X) (em member) (em samePlace) (em (meanCol X)ᵀ)
        (((cov (grouped X)).trace : ℝ) : EReal) (em (normed (cov (grouped X))))
        (em (third (cov (grouped X)) * third (cov (grouped X)))) (em (third (cov (grouped X)) * normed (cov (grouped X))))
        (mulf (broadcast S32x32 (Scalar.ofBits (F := Ideal) .f32 0x3FC00000#32)) (em (third (cov (grouped X)))))
        (em (colMat 1 w)) b (em (colMat 1 w)) (ix3 0 c l)
      = ((whitened X c l * w c : ℝ) : EReal) + b (ix2 c 0) := by
  have hr : Scalar.rsqrt (F := Ideal) (φ := .f32) (((cov (grouped X)).trace : ℝ) : EReal)
      = ((Real.sqrt (1 / (cov (grouped X)).trace) : ℝ) : EReal) := by
    refine (Ideal.rsqrt_coe _).trans ?_
    rw [if_neg (not_lt.mpr hS.le), if_neg hS.ne', inv_sqrt_eq]
  have hw : mulf (em (newton (normed (cov (grouped X)))))
      (broadcast S32x32 (Scalar.rsqrt (F := Ideal) (φ := .f32) (((cov (grouped X)).trace : ℝ) : EReal)))
      = em (whitener (cov (grouped X))) := mulf_splat_em _ _ _ hr
  have h5 : step (normed (cov (grouped X))) (step (normed (cov (grouped X))) (third (cov (grouped X))))
      = newton (normed (cov (grouped X))) := rfl
  have hcast (v : FVec Ideal S512x1 .f32) : shapeCast S512x1 v shapeCasts_S512x1_S512x1 = v := shapeCast_self v _
  generalize hW : whitener (cov (grouped X)) = W at hw
  have hwb : broadcastTo S512x32 (em (colMat 1 w)) broadcasts_S512x1_S512x32
      = em (colMat 32 w) := by
    refine eq_em _ _ fun r c => ?_
    pointwise
    rfl
  have hmb : broadcastTo S32x32 (em (meanCol X)ᵀ) broadcasts_S1x32_S32x32
      = em (colMat 32 (mean (grouped X)))ᵀ := by
    refine eq_em _ _ fun r c => ?_
    pointwise
    rfl
  have hred (A : Mat 32 32) : shapeCast S32x1 (multiReduction (F := Ideal) (φ := .f32) .add [1] S32 (em A) 0x00000000#32
      reduces_S32x32_S32 (.inl rfl) rfl) shapeCasts_S32_S32x1 = em (colMat 1 fun g => ∑ h, A g h) := by
    refine eq_em _ _ fun r c => ?_
    pointwise
    simp only [em_apply, colMat_apply, coe_sum]
  unfold k0_pay18
  simp only [hcast, dot_32_32_32, step_em, h5, hw, dot_512_32_32, hwb, hmb, hred, mulf_em, dot_512_32_512, dot_512_32_1,
    dot_512_512_4096]
  pointwise
  have hm (f : Fin 32 → ℝ) : ∑ g, member c g * f g = f (groupOf c) := by
    simp only [member, ite_mul, one_mul, zero_mul]
    rw [Finset.sum_eq_single (groupOf c) (fun g _ hg => if_neg fun e => hg (Fin.ext e.symm))
      (fun h => absurd (Finset.mem_univ _) h)]
    exact if_pos rfl
  have hreal : (∑ d, (∑ h, (member * W) c h * w c * member d h) * samePlace c d * X d l)
      - w c * ∑ g, member c g * ∑ h, W g h * mean (grouped X) h = whitened X c l * w c := by
    rw [hm, whitened, hW, ← expandedProduct]
    simp only [Matrix.mul_apply, hm]
  simp only [em_apply, colMat_apply, Matrix.transpose_apply, ← EReal.coe_mul, ← coe_sum]
  rw [← hreal, EReal.coe_sub, sub_eq_add_neg, sub_eq_add_neg, ← add_assoc, add_right_comm]
  simp only [Matrix.mul_apply, entrywise_apply, colMat_apply, Matrix.transpose_apply]

end Cert.Body

end
-- ==== Proof.Array.lean ====
/-
  WHAT THE RESULT ARRAY HOLDS. Each of the 32 grid points takes one batch item and writes back one block, the item's part
  of the result; the scale and shift columns are the arguments reshaped from [1, 512, 1] to [512, 1] before the launch.
  So the kernel's result array is `closed`: at item `b`, channel `c`, place `l` the whitened item times the channel's
  scale plus the channel's shift (`result_eq`).
-/
module

public import proofs.«01_k».proof.Proof.Body
public import proofs.«01_k».proof.Proof.Gen.KernelIdeal.Value
public import Idealize.ShloMosaic.Lib.Pipeline.Value
public import Idealize.ShloMosaic.Lib.StableHlo.ReadAt

@[expose] public section

noncomputable section

namespace Cert.Array

open Idealize.ShloMosaic Idealize.ShloMosaic.TcCoe Idealize.SL.Sem Cert.Whiten Cert.Vec Cert.Body Cert.KernelIdeal
  Cert.KernelIdeal.Gen

/-- The result: each item whitened, scaled and shifted channel by channel. -/
def closed (X : Fin 32 → Mat 512 4096) (w : Fin 512 → ℝ) (b : FVec Ideal (⟨3, ![1, 512, 1]⟩ : Shape) .f32) :
    FVec Ideal (⟨3, ![32, 512, 4096]⟩ : Shape) .f32 :=
  fun i => ((whitened (X (i 0)) (i 1) (i 2) * w (i 1) : ℝ) : EReal) + b (ix3 0 (i 1) 0)

/-- What the body leaves in the output block: the payload of the real item and the two columns. -/
theorem out_eq (v : Vec Ideal S1x512x4096 .f32) (X : Mat 512 4096) (w : Fin 512 → ℝ) (b : FVec Ideal S512x1 .f32)
    (hv : ∀ c l, v (ix3 0 c l) = ((X c l : ℝ) : EReal)) (hS : 0 < (cov (grouped X)).trace) (c : Fin 512) (l : Fin 4096) :
    out0_3 (F := Ideal) v (em (colMat 1 w)) b (ix3 0 c l) = ((whitened X c l * w c : ℝ) : EReal) + b (ix2 c 0) := by
  have hz3 : (![0, 0, 0] : Fin 3 → ℕ) = fun _ => 0 := funext fun a => by fin_cases a <;> rfl
  have hz2 : (![0, 0] : Fin 2 → ℕ) = fun _ => 0 := funext fun a => by fin_cases a <;> rfl
  unfold_out out0_3
  rw [View.canon_unit_zero hz3, View.ld_unit_zero hz3, View.ld_unit_zero hz2, View.ld_unit_zero hz2]
  rw [pay1_eq v X hv, pay2_eq v X hv, pay3_eq v X hv, pay4_eq, pay7_eq, pay9_eq, pay10_eq, pay12_eq, pay13_eq _ hS.ne',
    pay15_eq _ hS.ne', pay16_eq _ hS.ne', pay17_eq _ hS.ne']
  exact pay18_eq X w b hS c l

variable (m : (ℓ : Loc nD τ sig) → Buf (Elt Ideal) ℓ) (c : Dev nD)

/-- The scale column as the launch finds it. -/
theorem scale_at (r : Fin 512) :
    V m c main_v0 (ix2 r 0) = m ((c : Thread nD τ).loc main_arg1) (ix3 0 r 0) := by
  unfold V hostOps0
  after_reads_at

/-- The shift column as the launch finds it. -/
theorem shift_at (r : Fin 512) :
    V m c main_v1 (ix2 r 0) = m ((c : Thread nD τ).loc main_arg2) (ix3 0 r 0) := by
  unfold V hostOps0
  after_reads_at

/-- The item block's index at a point is the point's number. -/
theorem index0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- The columns' blocks are the whole columns. -/
theorem index12 : ∀ t : Fin cfg0.N, (win0_1.index t 0 = 0 ∧ win0_1.index t 1 = 0) ∧ win0_2.index t 0 = 0 ∧ win0_2.index t 1 = 0 :=
  (by decide +kernel : ∀ t : Fin grid0.N, (win0_1.index t 0 = 0 ∧ win0_1.index t 1 = 0) ∧ win0_2.index t 0 = 0 ∧ win0_2.index t 1 = 0)

/-- The result block's index at a point is the point's number. -/
theorem index3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)

/-- The number of a grid point, as an item's number. -/
def itemOf (t : Fin cfg0.N) : Fin 32 := ⟨t.val, lt_of_lt_of_eq t.isLt N_0⟩

/-- Point `t`'s first block is item `t`. -/
theorem item_at (t : Fin cfg0.N) (r : Fin 512) (l : Fin 4096) :
    iblk m c 0 t (ix3 0 r l) = m ((c : Thread nD τ).loc main_arg0) (ix3 (itemOf t) r l) := by
  have hi := index0 t
  unfold iblk
  rw [View.read_apply]
  show V m c main_arg0 _ = _
  rw [V_main_arg0]
  refine congrArg (m ((c : Thread nD τ).loc main_arg0)) ?_
  funext a
  apply Fin.ext
  match a with
  | ⟨0, _⟩ => show win0_0.index t 0 * 1 + 1 * 0 = t.val; rw [hi.1]; omega
  | ⟨1, _⟩ => show win0_0.index t 1 * 512 + 1 * r.val = r.val; rw [hi.2.1]; omega
  | ⟨2, _⟩ => show win0_0.index t 2 * 4096 + 1 * l.val = l.val; rw [hi.2.2]; omega

/-- Each point's second block is the scale column. -/
theorem scaleBlock (t : Fin cfg0.N) (r : Fin 512) :
    iblk m c 1 t (ix2 r 0) = m ((c : Thread nD τ).loc main_arg1) (ix3 0 r 0) := by
  have hi := (index12 t).1
  unfold iblk
  rw [View.read_apply]
  refine Eq.trans ?_ (scale_at m c r)
  show V m c main_v0 _ = _
  refine congrArg (V m c main_v0) ?_
  funext a
  apply Fin.ext
  match a with
  | ⟨0, _⟩ => show win0_1.index t 0 * 512 + 1 * r.val = r.val; rw [hi.1]; omega
  | ⟨1, _⟩ => show win0_1.index t 1 * 1 + 1 * 0 = 0; rw [hi.2]

/-- Each point's third block is the shift column. -/
theorem shiftBlock (t : Fin cfg0.N) (r : Fin 512) :
    iblk m c 2 t (ix2 r 0) = m ((c : Thread nD τ).loc main_arg2) (ix3 0 r 0) := by
  have hi := (index12 t).2
  unfold iblk
  rw [View.read_apply]
  refine Eq.trans ?_ (shift_at m c r)
  show V m c main_v1 _ = _
  refine congrArg (V m c main_v1) ?_
  funext a
  apply Fin.ext
  match a with
  | ⟨0, _⟩ => show win0_2.index t 0 * 512 + 1 * r.val = r.val; rw [hi.1]; omega
  | ⟨1, _⟩ => show win0_2.index t 1 * 1 + 1 * 0 = 0; rw [hi.2]

/-- The result array after the run is the closed form, for real items and scales with a positive trace in each item. -/
theorem result_eq (X : Fin 32 → Mat 512 4096) (w : Fin 512 → ℝ)
    (hx : ∀ b r l, m ((c : Thread nD τ).loc main_arg0) (ix3 b r l) = ((X b r l : ℝ) : EReal))
    (hw : ∀ r, m ((c : Thread nD τ).loc main_arg1) (ix3 0 r 0) = ((w r : ℝ) : EReal))
    (hS : ∀ b, 0 < (cov (grouped (X b))).trace) :
    (dats m 0 c).arrAt 3 cfg0.N = closed X w (m ((c : Thread nD τ).loc main_arg2)) := by
  refine funext fun (i : (⟨3, ![32, 512, 4096]⟩ : Shape).Idx) => ?_
  obtain ⟨t, r, l, rfl⟩ : ∃ (t : Fin 32) (r : Fin 512) (l : Fin 4096), i = ix3 t r l := ⟨i 0, i 1, i 2, eq_ix3 i⟩
  obtain ⟨t, rfl⟩ : ∃ t' : Fin cfg0.N, t = itemOf t' := ⟨⟨t.val, lt_of_lt_of_eq t.isLt N_0.symm⟩, rfl⟩
  have hi := index3 t
  have h := congrFun (KernelIdeal.Value.blocks3 m c t (flush0_3 t)) (ix3 0 r l)
  rw [View.read_apply, KernelIdeal.Value.flushed3] at h
  have he : ((cfg0.win 3).blk t).view.emb (ix3 0 r l) = ix3 (itemOf t) r l := by
    funext a
    apply Fin.ext
    match a with
    | ⟨0, _⟩ => show win0_3.index t 0 * 1 + 1 * 0 = t.val; rw [hi.1]; omega
    | ⟨1, _⟩ => show win0_3.index t 1 * 512 + 1 * r.val = r.val; rw [hi.2.1]; omega
    | ⟨2, _⟩ => show win0_3.index t 2 * 4096 + 1 * l.val = l.val; rw [hi.2.2]; omega
  rw [he] at h
  have hcol : (iblk m c 1 t : FVec Ideal S512x1 .f32) = em (colMat 1 w) := eq_em _ _ fun r' u => by
    rw [Subsingleton.elim u 0]
    exact (scaleBlock m c t r').trans (hw r')
  have ho := out_eq (iblk m c 0 t) (X (itemOf t)) w (iblk m c 2 t)
    (fun r' l' => (item_at m c t r' l').trans (hx (itemOf t) r' l')) (hS (itemOf t)) r l
  rw [← hcol, shiftBlock m c t r] at ho
  exact h.trans ho

end Cert.Array

end
-- ==== Proof.RefValue.lean ====
/-
  WHAT THE REFERENCE COMPUTES. The reference's named intermediate arrays, read as families of real matrices, one per batch
  item: the regrouped items, the centred groups, the covariances, the reciprocals of their traces, the normed covariances
  and the five Newton-Schulz iterates; its result array is the same closed form as the kernel's (`result_eq`).
-/
module

public import proofs.«01_k».proof.Proof.Array
public import proofs.«01_k».proof.Proof.Gen.ReferenceIdeal.Run

@[expose] public section

noncomputable section

namespace Cert.RefValue

open Idealize.ShloMosaic Idealize.ShloMosaic.TcCoe Idealize.SL.Sem Cert.Whiten Cert.Vec Cert.Body Matrix
  Cert.ReferenceIdeal Cert.ReferenceIdeal.Gen Cert.ReferenceIdeal.Value

/-- A family of real matrices as a three-axis vector of extended reals. -/
def em3 {n a b : ℕ} (M : Fin n → Mat a b) : FVec Ideal (⟨3, ![n, a, b]⟩ : Shape) .f32 :=
  fun i => ((M (i 0) (i 1) (i 2) : ℝ) : EReal)

/-- The entry of an embedded family. -/
theorem em3_apply {n a b : ℕ} (M : Fin n → Mat a b) (p : Fin n) (r : Fin a) (c : Fin b) :
    em3 M (ix3 p r c) = ((M p r c : ℝ) : EReal) := rfl

/-- A vector with the entries of a family is the family embedded. -/
theorem eq_em3 {n a b : ℕ} (v : FVec Ideal (⟨3, ![n, a, b]⟩ : Shape) .f32) (M : Fin n → Mat a b)
    (h : ∀ p r c, v (ix3 p r c) = ((M p r c : ℝ) : EReal)) : v = em3 M := by
  funext j
  rw [eq_ix3 j]
  exact h _ _ _

/-- A quotient of reals, embedded. -/
theorem div_em (x y : ℝ) (hy : y ≠ 0) : Ideal.div (x : EReal) (y : EReal) = ((x / y : ℝ) : EReal) := by
  rw [Ideal.div_coe hy, ← EReal.coe_mul]
  congr 1
  ring

/-- The batched product of two families of 32x32 matrices. -/
theorem dot_batch (A B : Fin 32 → Mat 32 32) :
    Host.dotGeneral dot_S32x32x32_S32x32x32_S32x32x32_2_1_1_2_0_0 none (em3 A) (em3 B) = em3 (fun p => A p * B p) := by
  refine eq_em3 _ _ fun p r c => ?_
  pointwise
  exact sum_coe_mul _ _

/-- The batched product of 32x32 matrices and 32x65536 matrices. -/
theorem dot_wide (A : Fin 32 → Mat 32 32) (B : Fin 32 → Mat 32 65536) :
    Host.dotGeneral dot_S32x32x32_S32x32x65536_S32x32x65536_2_1_1_2_0_0 none (em3 A) (em3 B) = em3 (fun p => A p * B p) := by
  refine eq_em3 _ _ fun p r c => ?_
  pointwise
  exact sum_coe_mul _ _

/-- The batched product of 32x65536 matrices and their own kind transposed. -/
theorem dot_batchGram (A B : Fin 32 → Mat 32 65536) :
    Host.dotGeneral dot_S32x32x65536_S32x32x65536_S32x32x32_2_2_1_1_0_0 none (em3 A) (em3 B) = em3 (fun p => A p * (B p)ᵀ) := by
  refine eq_em3 _ _ fun p r c => ?_
  pointwise
  rw [Matrix.mul_apply]
  simp only [em3_apply, Matrix.transpose_apply]
  exact sum_coe_mul (fun k => A p r k) (fun k => B p c k)

/-- One printed step on a family: `1.5 P` less half of `((P P) P) S`. -/
theorem step_em3 (P N : Fin 32 → Mat 32 32) :
    subf (mulf (broadcastInDim S32x32x32 ![] bcast_S_S32x32x32 (constant (F := Ideal) S_ .f32 0x3FC00000#32)) (em3 P))
        (mulf (broadcastInDim S32x32x32 ![] bcast_S_S32x32x32 (constant (F := Ideal) S_ .f32 0x3F000000#32))
          (Host.dotGeneral dot_S32x32x32_S32x32x32_S32x32x32_2_1_1_2_0_0 none
            (Host.dotGeneral dot_S32x32x32_S32x32x32_S32x32x32_2_1_1_2_0_0 none
              (Host.dotGeneral dot_S32x32x32_S32x32x32_S32x32x32_2_1_1_2_0_0 none (em3 P) (em3 P)) (em3 P)) (em3 N)))
      = em3 (fun p => step (N p) (P p)) := by
  rw [dot_batch, dot_batch, dot_batch]
  refine eq_em3 _ _ fun p r c => ?_
  pointwise
  simp only [em3_apply, ofBits_threeHalves, ofBits_half, ← EReal.coe_mul, ← EReal.coe_sub]
  rfl

variable (V0 : Idealize.ShloMosaic.Valuation τ sig (Elt Ideal)) (X : Fin 32 → Mat 512 4096)
  (hx : ∀ b r l, (V0 (Proc.devRef .tc main_arg0) : FVec Ideal S32x512x4096 .f32) (ix3 b r l) = ((X b r l : ℝ) : EReal))
include hx

/-- The items regrouped. -/
theorem v0_eq : (res_main_v0 V0 : FVec Ideal S32x32x65536 .f32) = em3 (fun p => grouped (X p)) := by
  refine eq_em3 _ _ fun p g n => ?_
  refine Eq.trans ?_ (hx p ⟨16 * g.val + n.val / 4096, by omega⟩ ⟨n.val % 4096, by omega⟩)
  unfold res_main_v0
  refine shapeCast_apply _ _ _ _ ?_
  refine (Shape.rowMajor_val_three (d := ![32, 512, 4096]) _).trans
    (Eq.trans ?_ (Shape.rowMajor_val_three (d := ![32, 32, 65536]) _).symm)
  show (p.val * 512 + (16 * g.val + n.val / 4096)) * 4096 + n.val % 4096 = (p.val * 32 + g.val) * 65536 + n.val
  omega

/-- The groups centred. -/
theorem v6_eq : (res_main_v6 V0 : FVec Ideal S32x32x65536 .f32) = em3 (fun p => centred (grouped (X p))) := by
  unfold res_main_v6
  rw [v0_eq V0 X hx]
  refine eq_em3 _ _ fun p g n => ?_
  pointwise
  simp only [em3_apply, ofBits_count, ← coe_sum]
  rw [div_em _ _ (by norm_num), ← EReal.coe_sub]
  rfl

/-- The covariances. -/
theorem v9_eq : (res_main_v9 V0 : FVec Ideal S32x32x32 .f32) = em3 (fun p => cov (grouped (X p))) := by
  unfold res_main_v9
  rw [v6_eq V0 X hx, dot_batchGram]
  refine eq_em3 _ _ fun p g h => ?_
  pointwise
  simp only [em3_apply, ofBits_count]
  rw [div_em _ _ (by norm_num), Matrix.mul_apply]
  rfl

/-- The reciprocals of the traces. -/
theorem v13_eq (hS : ∀ b, 0 < (cov (grouped (X b))).trace) :
    (res_main_v13 V0 : FVec Ideal S32x1x1 .f32) = em3 (fun p => colMat 1 fun _ : Fin 1 => 1 / (cov (grouped (X p))).trace) := by
  unfold res_main_v13
  rw [v9_eq V0 X hx]
  refine eq_em3 _ _ fun p g h => ?_
  pointwise
  have hz (x y : Fin 32) : IntOp.addi (BitVec.ofNat 32 x.val) 0#32 = BitVec.ofNat 32 x.val := BitVec.add_zero _
  have hd (x y : Fin 32) : Scalar.select (IntOp.cmpi CmpIPredicate.eq (IntOp.addi (BitVec.ofNat 32 x.val) 0#32) (BitVec.ofNat 32 y.val))
      (em3 (fun p => cov (grouped (X p))) (ix3 p x y)) 0 = if x = y then ((cov (grouped (X p)) x y : ℝ) : EReal) else 0 := by
    rw [hz x y, select_eqWord _ _ (by omega) (by omega)]
    simp only [em3_apply, Fin.ext_iff]
  simp only [hd, Finset.sum_ite_eq, Finset.mem_univ, if_true, ← coe_sum, colMat_apply]
  exact div_em 1 _ (hS p).ne'

/-- The covariances over their traces. -/
theorem v15_eq (hS : ∀ b, 0 < (cov (grouped (X b))).trace) :
    (res_main_v15 V0 : FVec Ideal S32x32x32 .f32) = em3 (fun p => normed (cov (grouped (X p)))) := by
  unfold res_main_v15
  rw [v9_eq V0 X hx, v13_eq V0 X hx hS]
  refine eq_em3 _ _ fun p g h => ?_
  pointwise
  simp only [em3_apply, colMat_apply, ← EReal.coe_mul]
  rw [normed, Matrix.smul_apply, smul_eq_mul, mul_comm]

omit hx in
/-- The identity, once per item. -/
theorem v22_eq : (res_main_v22 V0 : FVec Ideal S32x32x32 .f32) = em3 (fun _ => 1) := by
  unfold res_main_v22
  refine eq_em3 _ _ fun p g h => ?_
  pointwise
  have hz : IntOp.addi (BitVec.ofNat 32 g.val) 0#32 = BitVec.ofNat 32 g.val := BitVec.add_zero _
  have hu (b : BitVec 1) : FloatOps.uitofp (F := Ideal) .f32 b = Scalar.select b (1 : EReal) 0 := by
    have hb : ∀ b : BitVec 1, b = 0#1 ∨ b = 1#1 := by decide
    show ((b.toNat : ℝ) : EReal) = _
    rcases hb b with rfl | rfl <;> simp [Scalar.select]
  rw [hz, hu, select_eqWord _ _ (by omega) (by omega), Matrix.one_apply]
  simp only [Fin.ext_iff]
  split_ifs <;> simp

/-- The result array is the closed form, for real items and scales with a positive trace in each item. -/
theorem result_eq (w : Fin 512 → ℝ)
    (hw : ∀ r, (V0 (Proc.devRef .tc main_arg1) : FVec Ideal S1x512x1 .f32) (ix3 0 r 0) = ((w r : ℝ) : EReal))
    (hS : ∀ b, 0 < (cov (grouped (X b))).trace) :
    (val2 V0 (Proc.devRef .tc main_v71) : FVec Ideal S32x512x4096 .f32)
      = Array.closed X w (V0 (Proc.devRef .tc main_arg2)) := by
  rw [val2_main_v71]
  have h30 : (res_main_v30 V0 : FVec Ideal S32x32x32 .f32) = em3 (fun p => step (normed (cov (grouped (X p)))) 1) := by
    unfold res_main_v30
    rw [v22_eq V0, v15_eq V0 X hx hS]
    exact step_em3 _ _
  have h38 : (res_main_v38 V0 : FVec Ideal S32x32x32 .f32)
      = em3 (fun p => step (normed (cov (grouped (X p)))) (step (normed (cov (grouped (X p)))) 1)) := by
    unfold res_main_v38
    rw [h30, v15_eq V0 X hx hS]
    exact step_em3 _ _
  have h46 : (res_main_v46 V0 : FVec Ideal S32x32x32 .f32)
      = em3 (fun p => third (cov (grouped (X p)))) := by
    unfold res_main_v46
    rw [h38, v15_eq V0 X hx hS]
    exact step_em3 _ _
  have h54 : (res_main_v54 V0 : FVec Ideal S32x32x32 .f32)
      = em3 (fun p => step (normed (cov (grouped (X p)))) (third (cov (grouped (X p))))) := by
    unfold res_main_v54
    rw [h46, v15_eq V0 X hx hS]
    exact step_em3 _ _
  have hwm : mulf (em3 (fun p => newton (normed (cov (grouped (X p))))))
      (broadcastInDim S32x32x32 ![0, 1, 2] bcast_S32x1x1_S32x32x32_0_1_2
        (Host.sqrt (em3 (fun p => colMat 1 fun _ : Fin 1 => 1 / (cov (grouped (X p))).trace))))
      = em3 (fun p => whitener (cov (grouped (X p)))) := by
    refine eq_em3 _ _ fun p g h => ?_
    pointwise
    simp only [em3_apply, colMat_apply]
    rw [Ideal.sqrt_coe, if_neg (not_lt.mpr (one_div_pos.mpr (hS p)).le), ← EReal.coe_mul, mul_comm]
    rfl
  rw [h54, v15_eq V0 X hx hS, v13_eq V0 X hx hS, v6_eq V0 X hx, step_em3]
  refine (congrArg (fun v => addf (mulf (shapeCast _ (Host.dotGeneral dot_S32x32x32_S32x32x65536_S32x32x65536_2_1_1_2_0_0 none v _) _) _) _) hwm).trans ?_
  rw [dot_wide]
  refine funext fun (i : (⟨3, ![32, 512, 4096]⟩ : Shape).Idx) => ?_
  obtain ⟨t, r, l, rfl⟩ : ∃ (t : Fin 32) (r : Fin 512) (l : Fin 4096), i = ix3 t r l := ⟨i 0, i 1, i 2, eq_ix3 i⟩
  have hc : shapeCast S32x512x4096 (em3 fun p => whitener (cov (grouped (X p))) * centred (grouped (X p)))
      shapeCasts_S32x32x65536_S32x512x4096 (ix3 t r l) = ((whitened (X t) r l : ℝ) : EReal) := by
    refine (shapeCast_apply _ _ _ (ix3 t (groupOf r) (placeOf r l)) ?_).trans ?_
    · refine (Shape.rowMajor_val_three (d := ![32, 32, 65536]) _).trans
        (Eq.trans ?_ (Shape.rowMajor_val_three (d := ![32, 512, 4096]) _).symm)
      show (t.val * 32 + r.val / 16) * 65536 + (4096 * (r.val % 16) + l.val) = (t.val * 512 + r.val) * 4096 + l.val
      omega
    · rw [em3_apply, Matrix.mul_apply]
      rfl
  have hwa : broadcastInDim S32x512x4096 ![0, 1, 2] bcast_S1x512x1_S32x512x4096_0_1_2
      (V0 (Proc.devRef .tc main_arg1) : FVec Ideal S1x512x1 .f32) (ix3 t r l) = ((w r : ℝ) : EReal) := by
    refine Eq.trans ?_ (hw r)
    pointwise
  have hba : broadcastInDim S32x512x4096 ![0, 1, 2] bcast_S1x512x1_S32x512x4096_0_1_2
      (V0 (Proc.devRef .tc main_arg2) : FVec Ideal S1x512x1 .f32) (ix3 t r l)
      = (V0 (Proc.devRef .tc main_arg2) : FVec Ideal S1x512x1 .f32) (ix3 0 r 0) := by
    pointwise
  refine (congrArg₂ (fun a b : EReal => a + b) (congrArg₂ (fun a b : EReal => a * b) hc hwa) hba).trans ?_
  rw [← EReal.coe_mul]
  rfl

end Cert.RefValue

end
-- ==== Proof.Pre.lean ====
/-
  WHAT THE PRECONDITION SAYS. The printed precondition, all its words set, gives real matrices and real scales that `x` and
  `weight` hold, and a positive covariance trace in every batch item (`reals_of`).
-/
module

public import proofs.«01_k».proof.Proof.Vec
public import proofs.«01_k».proof.Pre_finite_and_varied
public import Idealize.ShloMosaic.Lib.Pointwise
public import Idealize.ShloMosaic.Lib.WordSum

@[expose] public section

noncomputable section

namespace Cert.Pre

open Idealize.ShloMosaic Cert.Whiten Cert.Pre_finite_and_varied Cert.Pre_finite_and_varied.Facts Matrix

/-- A number whose magnitude compares below infinity is a real number. -/
theorem real_of_abs_lt (a : EReal) (h : FloatOps.cmpf (F := Ideal) (φ := .f32) .olt (FloatOps.absf (F := Ideal) (φ := .f32) a)
    (FloatOps.ofBits (F := Ideal) .f32 0x7F800000#32) = 1#1) : a = ((a.toReal : ℝ) : EReal) := by
  have htop : FloatOps.ofBits (F := Ideal) .f32 0x7F800000#32 = (⊤ : EReal) := by
    show Ideal.ofBits .f32 0x7F800000#32 = ⊤
    simp [Ideal.ofBits, Ideal.ieee]
  have hlt : max a (-a) < ⊤ := by
    by_contra hn
    rw [htop] at h
    have h0 : FloatOps.cmpf (F := Ideal) (φ := .f32) .olt (FloatOps.absf (F := Ideal) (φ := .f32) a) ⊤ = BitVec.ofBool (decide (max a (-a) < ⊤)) := rfl
    rw [h0, decide_eq_false hn] at h
    exact absurd h (by decide)
  refine (EReal.coe_toReal ?_ ?_).symm
  · rintro rfl; simp at hlt
  · rintro rfl; simp at hlt

/-- Zero words add up to zero. -/
theorem foldl_zero {α : Type} (x : α → BitVec 32) (l : List α) (h : ∀ i ∈ l, x i = 0#32) :
    l.foldl (fun r i => IntOp.addi r (x i)) 0#32 = 0#32 := by
  induction l with
  | nil => rfl
  | cons i l ih =>
    rw [List.foldl_cons, h i (by simp)]
    exact ih fun k hk => h k (by simp [hk])

variable [Cert.Pre_finite_and_varied.Facts]

/-- The precondition's three arrays of words set: `x` and `weight` hold real numbers and every item's covariance has a positive trace. -/
theorem reals_of (x : FVec Ideal S32x512x4096 .f32) (weight bias : FVec Ideal S1x512x1 .f32)
    (h1 : (fn x weight bias).1 = fun _ => 1#1) (h2 : (fn x weight bias).2.1 = fun _ => 1#1)
    (h3 : (fn x weight bias).2.2 = fun _ => 1#1) :
    ∃ (X : Fin 32 → Mat 512 4096) (w : Fin 512 → ℝ),
      (∀ b r l, x (ix3 b r l) = ((X b r l : ℝ) : EReal)) ∧ (∀ r, weight (ix3 0 r 0) = ((w r : ℝ) : EReal))
        ∧ ∀ b, 0 < (cov (grouped (X b))).trace := by
  have hx : ∀ b r l, x (ix3 b r l) = (((x (ix3 b r l)).toReal : ℝ) : EReal) := fun b r l =>
    real_of_abs_lt _ (congrFun h1 (ix3 b r l))
  refine ⟨fun b r l => (x (ix3 b r l)).toReal, fun r => (weight (ix3 0 r 0)).toReal, hx,
    fun r => real_of_abs_lt _ (congrFun h2 (ix3 0 r 0)), fun b => trace_pos _ ?_⟩
  by_contra hn
  push Not at hn
  have hconst : ∀ (g : Fin 32) (n : Fin 65536), x (ix3 b ⟨g.val * 16 + n.val / 4096, by omega⟩ ⟨n.val % 4096, by omega⟩)
      = x (ix3 b ⟨g.val * 16, by omega⟩ 0) := fun g n => by
    refine (hx _ _ _).trans (Eq.trans ?_ (hx _ _ _).symm)
    have h := hn g n
    simp only [grouped, mul_comm 16] at h
    exact congrArg _ h
  have hb := congrFun h3 (ix1 b)
  have hsum : Host.reduce IntOp.addi
      (extui 32 (cmpf .une (shapeCast S32x32x65536 x shapeCasts_S32x512x4096_S32x32x65536)
        (broadcastInDim S32x32x65536 ![0, 1, 2] bcast_S32x32x1_S32x32x65536_0_1_2
          (extractStridedSlice S32x32x1 ![0, 0, 0] (shapeCast S32x32x65536 x shapeCasts_S32x512x4096_S32x32x65536)
            slices_S32x32x65536_S32x32x1_0_0_0))) natLt_1_32)
      (constantI S_ 32 0#32) reducesTo_S32x32x65536_S32_d1_2 h_S_ (ix1 b) = 0#32 := by
    rw [Host.reduce_eq_foldl]
    refine foldl_zero _ _ fun i hi => ?_
    obtain ⟨p, g, n, rfl⟩ : ∃ (p : Fin 32) (g : Fin 32) (n : Fin 65536), i = ix3 p g n := ⟨i 0, i 1, i 2, eq_ix3 i⟩
    have hp : p = b := by
      have hd := congrFun (of_decide_eq_true (List.mem_filter.1 hi).2) 0
      refine Fin.ext (Eq.trans ?_ (congrArg Fin.val hd))
      exact (Shape.ReducesTo.drop_apply_val_of_eq reducesTo_S32x32x65536_S32_d1_2 (ix3 p g n) 0 0).symm
    subst hp
    pointwise
    rw [decide_eq_false (not_not_intro (hconst g n))]
    rfl
  have hgt : (fn x weight bias).2.2 (ix1 b) = IntOp.cmpi .sgt 0#32 0#32 := by
    unfold fn
    dsimp only
    show IntOp.cmpi .sgt (Host.reduce _ _ _ _ _ _) _ = _
    rw [hsum]
    rfl
  rw [hgt] at hb
  exact absurd hb (by decide)

end Cert.Pre

end
-- ==== Proof.lean ====
/-
  THE CERTIFICATE. The claims about the two programs, assembled: the frames from the generated runs, and the equality of
  results from `Array.result_eq` (the kernel's result array), `RefValue.result_eq` (the reference's), both the same closed
  form, under what `Pre.reals_of` reads off the precondition.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite_and_varied
public import proofs.«01_k».proof.Proof.Array
public import proofs.«01_k».proof.Proof.RefValue
public import proofs.«01_k».proof.Proof.Pre
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.ShloMosaic.StableHlo Idealize.SL.Sem

/-- The reference, from any memory with zero counters, ends with its arguments unchanged and every counter at zero. -/
theorem ref_frame (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal)))
      ⟨m, fun _ => 0, g⟩ (fun r => (∀ c : Dev ReferenceIdeal.nD,
        r.2.mem ((c.tc : Thread ReferenceIdeal.nD ReferenceIdeal.τ).loc ReferenceIdeal.main_arg0)
            = m ((c.tc : Thread ReferenceIdeal.nD ReferenceIdeal.τ).loc ReferenceIdeal.main_arg0)
        ∧ r.2.mem ((c.tc : Thread ReferenceIdeal.nD ReferenceIdeal.τ).loc ReferenceIdeal.main_arg1)
            = m ((c.tc : Thread ReferenceIdeal.nD ReferenceIdeal.τ).loc ReferenceIdeal.main_arg1)
        ∧ r.2.mem ((c.tc : Thread ReferenceIdeal.nD ReferenceIdeal.τ).loc ReferenceIdeal.main_arg2)
            = m ((c.tc : Thread ReferenceIdeal.nD ReferenceIdeal.τ).loc ReferenceIdeal.main_arg2))
        ∧ r.2.sem = fun _ => 0) :=
  (θ_run _ _ _).mono (fun r h => ⟨fun c => (h c).2, sem_eq_zero_of_no_sems (by decide) r.2⟩)
    (ReferenceIdeal.Value.run (F := Ideal) m g)

set_option maxRecDepth 8192 in
/-- The kernel and the reference, over the extended reals, end with the same result: the closed form of both. -/
theorem equal_results : algebraic_KernelIdeal_ReferenceIdeal_pre_finite_and_varied := by
  intro m g m' g' hpre hagree
  choose X w hx hw hS using fun c => Pre.reals_of _ _ _ (hpre c).1 (hpre c).2.1 (hpre c).2.2
  refine ⟨fun c => Array.closed (X c) (w c)
    (m ((c.tc : Thread KernelIdeal.nD KernelIdeal.τ).loc KernelIdeal.main_arg2)), ?_, ?_⟩
  · exact (θ_run _ _ _).mono (fun r h c => ⟨(h c).1.trans (Array.result_eq m c (X c) (w c) (hx c) (hw c) (hS c)), (h c).2⟩)
      (KernelIdeal.Value.run_blocks (F := Ideal) m g)
  · refine (θ_run _ _ _).mono (fun r h c => ⟨(h c).1.trans ?_, (h c).2⟩) (ReferenceIdeal.Value.run (F := Ideal) m' g')
    refine (ReferenceIdeal.Value.val2_main_v71 _).symm.trans ?_
    refine (RefValue.result_eq (launchContents m' c) (X c) (fun b r l => ?_) (w c) (fun r => ?_) (hS c)).trans ?_
    · exact (congrFun (hagree c).1 _).trans (hx c b r l)
    · exact (congrFun (hagree c).2.1 _).trans (hw c r)
    · exact congrArg (Array.closed (X c) (w c)) (hagree c).2.2

/-- Everything the certificate claims. -/
theorem claim : Cert.Claim :=
  ⟨Kernel.Gen.facts, KernelIdeal.Gen.facts, ReferenceIdeal.Gen.facts, Pre_finite_and_varied.Gen.facts,
    fun m g _ => Kernel.Gen.frame m g, fun m g _ => KernelIdeal.Gen.frame m g, fun m g _ => KernelIdeal.Gen.frame m g,
    fun m g _ => ref_frame m g, fun m g _ => ref_frame m g, trivial, equal_results⟩

end Cert.Proof

end
